-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x768 : Shape := ⟨3, ![4, 4096, 768]⟩
abbrev S4x4096 : Shape := ⟨2, ![4, 4096]⟩
abbrev S768x768 : Shape := ⟨2, ![768, 768]⟩
abbrev S768 : Shape := ⟨1, ![768]⟩
abbrev S_ : Shape := ⟨0, ![]⟩

class Facts : Prop where
  bcast_S_S4x4096x768 : S_.BroadcastsInDim S4x4096x768 (![] : Fin 0 → Fin S4x4096x768.rank)
  reducesTo_S4x4096x768_S_d0_1_2 : S4x4096x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg5 : FVec F S768 .f32) (main_arg7 : FVec F S768 .f32) (main_arg8 : FVec F S768x768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg5
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768 .f32 := Host.absf main_arg7
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768x768 .f32 := Host.absf main_arg8
  let main_cst_10 : FVec F S_ .f32 := constant S_ .f32 0x7F800000#32
  let main_v30 : FVec F S768x768 .f32 := broadcastInDim S768x768 ![] bcast_S_S768x768 main_cst_10
  let main_v31 : IVec S768x768 1 := cmpf .olt main_v29 main_v30
  let main_c_11 : IVec S_ 1 := constantI S_ 1 1#1
  let main_v32 : IVec S_ 1 := (fun x v => Host.reduce IntOp.andi x v reducesTo_S768x768_S_d0_1 h_S_) main_v31 main_c_11
  let main_v33 : IVec S_ 1 := andi main_v28 main_v32
  main_v33

def fn {F : FTy → Type} [FloatOps F] (main_arg0 : FVec F S4x4096x768 .f32) (main_arg1 : IVec S4x4096 32) (main_arg2 : FVec F S768x768 .f32) (main_arg3 : FVec F S768 .f32) (main_arg4 : FVec F S768x768 .f32) (main_arg5 : FVec F S768 .f32) (main_arg6 : FVec F S768x768 .f32) (main_arg7 : FVec F S768 .f32) (main_arg8 : FVec F S768x768 .f32) (main_arg9 : FVec F S768 .f32) : IVec S_ 1 :=
  let main_v0 : FVec F S4x4096x768 .f32 := Host.absf main_arg0
  let main_cst : FVec F S_ .f32 := constant S_ .f32 0x7F800000#32
  let main_v1 : FVec F S4x4096x768 .f32 := broadcastInDim S4x4096x768 ![] bcast_S_S4x4096x768 main_cst
  let main_v2 : IVec S4x4096x768 1 := cmpf .olt main_v0 main_v1
  let main_c : IVec S_ 1 := constantI S_ 1 1#1
  let main_v3 : IVec S_ 1 := (fun x v => Host.reduce IntOp.andi x v reducesTo_S4x4096x768_S_d0_1_2 h_S_) main_v2 main_c
  let main_v4 : FVec F S768x768 .f32 := Host.absf main_arg2
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg3
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg4
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg5 main_arg7 main_arg8 main_v13 main_v16
-- ==== Kernel.lean ====
abbrev S4x4096x768 : Shape := ⟨3, ![4, 4096, 768]⟩
abbrev S4x4096 : Shape := ⟨2, ![4, 4096]⟩
abbrev S768x768 : Shape := ⟨2, ![768, 768]⟩
abbrev S768 : Shape := ⟨1, ![768]⟩
abbrev S1x768 : Shape := ⟨2, ![1, 768]⟩
abbrev S_ : Shape := ⟨0, ![]⟩
abbrev S3x256 : Shape := ⟨2, ![3, 256]⟩
abbrev S768x3x256 : Shape := ⟨3, ![768, 3, 256]⟩
abbrev S3x768x256 : Shape := ⟨3, ![3, 768, 256]⟩
abbrev S3x256x768 : Shape := ⟨3, ![3, 256, 768]⟩
abbrev S4x1024x768 : Shape := ⟨3, ![4, 1024, 768]⟩
abbrev S1x4096x768 : Shape := ⟨3, ![1, 4096, 768]⟩
abbrev S1x768x256 : Shape := ⟨3, ![1, 768, 256]⟩
abbrev S1x256x768 : Shape := ⟨3, ![1, 256, 768]⟩
abbrev S1x1024x768 : Shape := ⟨3, ![1, 1024, 768]⟩
abbrev S4096x768 : Shape := ⟨2, ![4096, 768]⟩
abbrev S1024x768 : Shape := ⟨2, ![1024, 768]⟩
abbrev S768x256 : Shape := ⟨2, ![768, 256]⟩
abbrev S1024x256 : Shape := ⟨2, ![1024, 256]⟩
abbrev S1x256 : Shape := ⟨2, ![1, 256]⟩
abbrev S4096x256 : Shape := ⟨2, ![4096, 256]⟩
abbrev S1024x64 : Shape := ⟨2, ![1024, 64]⟩
abbrev S4096x64 : Shape := ⟨2, ![4096, 64]⟩
abbrev S512x64 : Shape := ⟨2, ![512, 64]⟩
abbrev S64x4096 : Shape := ⟨2, ![64, 4096]⟩
abbrev S512x4096 : Shape := ⟨2, ![512, 4096]⟩
abbrev S512 : Shape := ⟨1, ![512]⟩
abbrev S512x1 : Shape := ⟨2, ![512, 1]⟩
abbrev S256x768 : Shape := ⟨2, ![256, 768]⟩
abbrev S1x1x768 : Shape := ⟨3, ![1, 1, 768]⟩

abbrev nBuf : Space → Nat
  | .hbm => 28
  | .vmem => 14
  | .smem => 0
  | _ => 0

abbrev bufTy : (tb : Table) → Fin (tcTables nBuf tb) → BufTy
  | .hbm, ⟨0, _⟩ => ⟨S4x4096x768, .f32⟩
  | .hbm, ⟨1, _⟩ => ⟨S4x4096, .i32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S768x768, .f32⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S1x768, .f32⟩
  | .hbm, ⟨13, _⟩ => ⟨S_, .f32⟩
  | .hbm, ⟨14, _⟩ => ⟨S768, .f32⟩
  | .hbm, ⟨15, _⟩ => ⟨S768, .f32⟩
  | .hbm, ⟨16, _⟩ => ⟨S3x256, .f32⟩
  | .hbm, ⟨17, _⟩ => ⟨S_, .f32⟩
  | .hbm, ⟨18, _⟩ => ⟨S768x768, .f32⟩
  | .hbm, ⟨19, _⟩ => ⟨S768x768, .f32⟩
  | .hbm, ⟨20, _⟩ => ⟨S768x3x256, .f32⟩
  | .hbm, ⟨21, _⟩ => ⟨S3x768x256, .f32⟩
  | .hbm, ⟨22, _⟩ => ⟨S768x3x256, .f32⟩
  | .hbm, ⟨23, _⟩ => ⟨S3x768x256, .f32⟩
  | .hbm, ⟨24, _⟩ => ⟨S768x3x256, .f32⟩
  | .hbm, ⟨25, _⟩ => ⟨S3x768x256, .f32⟩
  | .hbm, ⟨26, _⟩ => ⟨S3x256x768, .f32⟩
  | .hbm, ⟨27, _⟩ => ⟨S4x1024x768, .f32⟩
  | .local _ .vmem, ⟨0, _⟩ => ⟨S1x4096x768, .f32⟩
  | .local _ .vmem, ⟨1, _⟩ => ⟨S1x4096x768, .f32⟩
  | .local _ .vmem, ⟨2, _⟩ => ⟨S1x768x256, .f32⟩
  | .local _ .vmem, ⟨3, _⟩ => ⟨S1x768x256, .f32⟩
  | .local _ .vmem, ⟨4, _⟩ => ⟨S1x768x256, .f32⟩
  | .local _ .vmem, ⟨5, _⟩ => ⟨S1x768x256, .f32⟩
  | .local _ .vmem, ⟨6, _⟩ => ⟨S1x768x256, .f32⟩
  | .local _ .vmem, ⟨7, _⟩ => ⟨S1x768x256, .f32⟩
  | .local _ .vmem, ⟨8, _⟩ => ⟨S1x256x768, .f32⟩
  | .local _ .vmem, ⟨9, _⟩ => ⟨S1x256x768, .f32⟩
  | .local _ .vmem, ⟨10, _⟩ => ⟨S3x256, .f32⟩
  | .local _ .vmem, ⟨11, _⟩ => ⟨S1x768, .f32⟩
  | .local _ .vmem, ⟨12, _⟩ => ⟨S1x1024x768, .f32⟩
  | .local _ .vmem, ⟨13, _⟩ => ⟨S1x1024x768, .f32⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 3], ![false, false]⟩

def k0_off1 (i : grid0.Coords) : Fin 2 → Nat :=
  let arg1 : BitVec 32 := BitVec.ofNat 32 (i 1).val
  let v6 : Index := Scalar.indexCast arg1
  let c0_5 : Index := 0#32
  ![v6.toNat, 0]
def k0_cond1 (i : grid0.Coords) : BitVec 1 :=
  let arg1 : BitVec 32 := BitVec.ofNat 32 (i 1).val
  let c0_i32 : BitVec 32 := 0#32
  let v109 : BitVec 1 := Scalar.cmpi .eq arg1 c0_i32
  let v110 : BitVec 32 := Scalar.extui v109
  let c0_i32_42 : BitVec 32 := 0#32
  let v111 : BitVec 1 := Scalar.cmpi .ne v110 c0_i32_42
  v111

def k0_cond2 (i : grid0.Coords) : BitVec 1 :=
  let arg1 : BitVec 32 := BitVec.ofNat 32 (i 1).val
  let c0_i32_43 : BitVec 32 := 0#32
  let v112 : BitVec 1 := Scalar.cmpi .ne arg1 c0_i32_43
  let v113 : BitVec 32 := Scalar.extui v112
  let c0_i32_44 : BitVec 32 := 0#32
  let v114 : BitVec 1 := Scalar.cmpi .ne v113 c0_i32_44
  v114

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x768x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4x4096x768 : Shape := ⟨3, ![4, 4096, 768]⟩
abbrev S4x4096 : Shape := ⟨2, ![4, 4096]⟩
abbrev S768x768 : Shape := ⟨2, ![768, 768]⟩
abbrev S768 : Shape := ⟨1, ![768]⟩
abbrev S4x1024x768 : Shape := ⟨3, ![4, 1024, 768]⟩
abbrev S1x1x768 : Shape := ⟨3, ![1, 1, 768]⟩
abbrev S4x1024x12x64 : Shape := ⟨4, ![4, 1024, 12, 64]⟩
abbrev S4x12x1024x64 : Shape := ⟨4, ![4, 12, 1024, 64]⟩
abbrev S4x4096x12x64 : Shape := ⟨4, ![4, 4096, 12, 64]⟩
abbrev S4x12x4096x64 : Shape := ⟨4, ![4, 12, 4096, 64]⟩
abbrev S4x12x1024x4096 : Shape := ⟨4, ![4, 12, 1024, 4096]⟩
abbrev S_ : Shape := ⟨0, ![]⟩
abbrev S4x12x1024 : Shape := ⟨3, ![4, 12, 1024]⟩
abbrev S4x12x1024x1 : Shape := ⟨4, ![4, 12, 1024, 1]⟩

abbrev nBuf : Space → Nat
  | .hbm => 55
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S4x4096, .i32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S768x768, .f32⟩
  | .hbm, ⟨9, _⟩ => ⟨S768, .f32⟩
  | .hbm, ⟨10, _⟩ => ⟨S4x1024x768, .f32⟩
  | .hbm, ⟨11, _⟩ => ⟨S4x1024x768, .f32⟩
  | .hbm, ⟨12, _⟩ => ⟨S1x1x768, .f32⟩
  | .hbm, ⟨13, _⟩ => ⟨S4x1024x768, .f32⟩
  | .hbm, ⟨14, _⟩ => ⟨S4x1024x768, .f32⟩
  | .hbm, ⟨15, _⟩ => ⟨S4x4096x768, .f32⟩
  | .hbm, ⟨16, _⟩ => ⟨S1x1x768, .f32⟩
  | .hbm, ⟨17, _⟩ => ⟨S4x4096x768, .f32⟩
  | .hbm, ⟨18, _⟩ => ⟨S4x4096x768, .f32⟩
  | .hbm, ⟨19, _⟩ => ⟨S4x4096x768, .f32⟩
  | .hbm, ⟨20, _⟩ => ⟨S1x1x768, .f32⟩
  | .hbm, ⟨21, _⟩ => ⟨S4x4096x768, .f32⟩
  | .hbm, ⟨22, _⟩ => ⟨S4x4096x768, .f32⟩
  | .hbm, ⟨23, _⟩ => ⟨S4x1024x12x64, .f32⟩
  | .hbm, ⟨24, _⟩ => ⟨S4x12x1024x64, .f32⟩
  | .hbm, ⟨25, _⟩ => ⟨S4x4096x12x64, .f32⟩
  | .hbm, ⟨26, _⟩ => ⟨S4x12x4096x64, .f32⟩
  | .hbm, ⟨27, _⟩ => ⟨S4x4096x12x64, .f32⟩
  | .hbm, ⟨28, _⟩ => ⟨S4x12x4096x64, .f32⟩
  | .hbm, ⟨29, _⟩ => ⟨S4x12x1024x4096, .f32⟩
  | .hbm, ⟨30, _⟩ => ⟨S_, .f32⟩
  | .hbm, ⟨31, _⟩ => ⟨S_, .f32⟩
  | .hbm, ⟨32, _⟩ => ⟨S4x12x1024x4096, .f32⟩
  | .hbm, ⟨33, _⟩ => ⟨S4x12x1024x4096, .f32⟩
  | .hbm, ⟨34, _⟩ => ⟨S_, .f32⟩
  | .hbm, ⟨35, _⟩ => ⟨S4x12x1024, .f32⟩
  | .hbm, ⟨36, _⟩ => ⟨S_, .f32⟩
  | .hbm, ⟨37, _⟩ => ⟨S4x12x1024, .f32⟩
  | .hbm, ⟨38, _⟩ => ⟨S4x12x1024, .f32⟩
  | .hbm, ⟨39, _⟩ => ⟨S4x12x1024x1, .f32⟩
  | .hbm, ⟨40, _⟩ => ⟨S4x12x1024x4096, .f32⟩
  | .hbm, ⟨41, _⟩ => ⟨S4x12x1024x4096, .f32⟩
  | .hbm, ⟨42, _⟩ => ⟨S4x12x1024x4096, .f32⟩
  | .hbm, ⟨43, _⟩ => ⟨S_, .f32⟩
  | .hbm, ⟨44, _⟩ => ⟨S4x12x1024, .f32⟩
  | .hbm, ⟨45, _⟩ => ⟨S4x12x1024x1, .f32⟩
  | .hbm, ⟨46, _⟩ => ⟨S4x12x1024x4096, .f32⟩
  | .hbm, ⟨47, _⟩ => ⟨S4x12x1024x4096, .f32⟩
  | .hbm, ⟨48, _⟩ => ⟨S4x12x1024x64, .f32⟩
  | .hbm, ⟨49, _⟩ => ⟨S4x1024x12x64, .f32⟩
  | .hbm, ⟨50, _⟩ => ⟨S4x1024x768, .f32⟩
  | .hbm, ⟨51, _⟩ => ⟨S4x1024x768, .f32⟩
  | .hbm, ⟨52, _⟩ => ⟨S1x1x768, .f32⟩
  | .hbm, ⟨53, _⟩ => ⟨S4x1024x768, .f32⟩
  | .hbm, ⟨54, _⟩ => ⟨S4x1024x768, .f32⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Proof.Numbers.lean ====
/- The constants of the two programs as extended reals, and the maximum of a row of real numbers. -/
module

public import Idealize.ShloMosaic.PureOps.Reduce
public import Idealize.ShloMosaic.Lib.Pointwise

@[expose] public section

noncomputable section

namespace Cert.Attention

open Idealize.ShloMosaic

/-- The kernel's scale is one eighth. -/
theorem scale_eq : Ideal.ofBits .f32 0x3E000000#32 = (((1 : ℝ) / 8 : ℝ) : EReal) := by
  simp [Ideal.ofBits, Ideal.ieee, -EReal.coe_mul]; norm_num

/-- The pattern the maximum starts from is minus infinity. -/
theorem negInf_eq : Ideal.ofBits .f32 0xFF800000#32 = ⊥ := by
  simp [Ideal.ofBits, Ideal.ieee]

/-- The pattern the precondition compares with is plus infinity. -/
theorem posInf_eq : Ideal.ofBits .f32 0x7F800000#32 = ⊤ := by
  simp [Ideal.ofBits, Ideal.ieee]

/-- The reference divides its scores by eight, the square root of 64. -/
theorem sqrt64_eq : Ideal.sqrt (Ideal.ofBits .f32 0x42800000#32) = ((8 : ℝ) : EReal) := by
  have h : Ideal.ofBits .f32 0x42800000#32 = ((64 : ℝ) : EReal) := by
    simp [Ideal.ofBits, Ideal.ieee, -EReal.coe_mul]; norm_num
  rw [h]
  show (if (64 : ℝ) < 0 then (⊥ : EReal) else ((Real.sqrt 64 : ℝ) : EReal)) = _
  rw [if_neg (by norm_num), show (64 : ℝ) = 8 * 8 by norm_num, Real.sqrt_mul_self (by norm_num)]

/-- The maximum of a real number and a list of real numbers is a real number. -/
theorem foldl_max_coe {K : Type} (f : K → EReal) (t : K → ℝ) (h : ∀ k, f k = (t k : EReal)) (l : List K) :
    ∀ r : ℝ, ∃ M : ℝ, l.foldl (fun a k => max a (f k)) (r : EReal) = (M : EReal) := by
  induction l with
  | nil => exact fun r => ⟨r, rfl⟩
  | cons k l ih =>
    intro r
    obtain ⟨M, e⟩ := ih (max r (t k))
    refine ⟨M, ?_⟩
    rw [List.foldl_cons, h k, ← e]
    exact congrArg (List.foldl _ · l) (EReal.coe_strictMono.monotone.map_max).symm

/-- The maximum of a list of real numbers that is not empty, started from minus infinity, is a real number. -/
theorem foldl_max_bot {K : Type} (f : K → EReal) (t : K → ℝ) (h : ∀ k, f k = (t k : EReal)) (l : List K)
    (hl : l ≠ []) : ∃ M : ℝ, l.foldl (fun a k => max a (f k)) ⊥ = (M : EReal) := by
  cases l with
  | nil => exact absurd rfl hl
  | cons k l =>
    rw [List.foldl_cons, max_bot_left, h k]
    exact foldl_max_coe f t h l (t k)

/-- A reduction by the maximum, from minus infinity, of an array of real numbers is a real number at every
    index that some index of the array reduces into. -/
theorem reduce_max_real {s t u : Shape} {axes : List (Fin s.rank)} (x : FVec Ideal s .f32) (init : FVec Ideal u .f32)
    (hr : s.ReducesTo axes t) (hu : 0 < u.numel) (j : t.Idx) (hi : init (Shape.Idx.first hu) = (⊥ : EReal))
    (r : s.Idx → ℝ) (h : ∀ i, x i = (r i : EReal)) (i : s.Idx) (hj : hr.drop i = j) :
    ∃ M : ℝ, Host.reduce FloatOps.maximumf x init hr hu j = (M : EReal) := by
  rw [Host.reduce_eq_foldl, hi]
  refine foldl_max_bot x r h _ (List.ne_nil_of_mem (a := i) ?_)
  rw [List.mem_filter]
  exact ⟨List.mem_map.2 ⟨s.rowMajor i, List.mem_finRange _, Equiv.symm_apply_apply _ _⟩, by simp [hj]⟩

end Cert.Attention

end
-- ==== Proof.Finite.lean ====
/- What the precondition says: every array it names holds real numbers only. -/
module

public import proofs.«01_k».proof.Defs
public import proofs.«01_k».proof.Proof.Gen.Pre_finite
public import proofs.«01_k».proof.Proof.Numbers
public import Idealize.ShloMosaic.Lib.ReduceAll

@[expose] public section

set_option maxRecDepth 16384

noncomputable section

namespace Cert.Attention

open Idealize.ShloMosaic Cert.Pre_finite Cert.Pre_finite.Gen

/-- The only index of a scalar. -/
def point : S_.Idx := fun a => a.elim0

instance : Subsingleton S_.Idx := ⟨fun a b => funext fun k => k.elim0⟩

/-- An extended real whose absolute value is below plus infinity is a real number. -/
theorem real_of_abs (x : EReal) (h : max x (-x) < ⊤) : ∃ r : ℝ, x = (r : EReal) := by
  induction x using EReal.rec with
  | coe r => exact ⟨r, rfl⟩
  | top => simp at h
  | bot => simp at h

/-- An array that passes the precondition's test for one array holds real numbers. -/
theorem real_of_test {s : Shape} {axes : List (Fin s.rank)} (x : FVec Ideal s .f32)
    (hb : S_.BroadcastsInDim s (![] : Fin 0 → Fin s.rank)) (hr : s.ReducesTo axes S_)
    (h : Host.reduce IntOp.andi (cmpf .olt (Host.absf x) (broadcastInDim s ![] hb (constant S_ .f32 0x7F800000#32)))
      (constantI S_ 1 1#1) hr Cert.Pre_finite.Gen.h_S_ point = 1#1) : ∃ r : s.Idx → ℝ, x = fun i => (r i : EReal) := by
  have e : ∀ i, ∃ r : ℝ, x i = (r : EReal) := fun i => by
    have := Host.reduce_andi_all _ _ _ _ _ h i
    have h2 : Ideal.cmp .olt (max (x i) (-(x i))) (Ideal.ofBits .f32 0x7F800000#32) = 1#1 := this
    rw [posInf_eq] at h2
    refine real_of_abs _ ?_
    by_contra hn
    simp [Ideal.cmp, hn] at h2
  choose r hr using e
  exact ⟨r, funext hr⟩

/-- The precondition: the tokens, the query and key weights and biases, the value bias and the output
    weight hold real numbers. -/
theorem real_of_pre (x : FVec Ideal S4x4096x768 .f32) (si : IVec S4x4096 32) (Wq : FVec Ideal S768x768 .f32)
    (bq : FVec Ideal S768 .f32) (Wk : FVec Ideal S768x768 .f32) (bk : FVec Ideal S768 .f32)
    (Wv : FVec Ideal S768x768 .f32) (bv : FVec Ideal S768 .f32) (Wo : FVec Ideal S768x768 .f32)
    (bo : FVec Ideal S768 .f32)
    (h : Cert.Pre_finite.fn x si Wq bq Wk bk Wv bv Wo bo = fun _ => 1#1) :
    (∃ r : S4x4096x768.Idx → ℝ, x = fun i => (r i : EReal)) ∧ (∃ r : S768x768.Idx → ℝ, Wq = fun i => (r i : EReal))
    ∧ (∃ r : S768.Idx → ℝ, bq = fun i => (r i : EReal)) ∧ (∃ r : S768x768.Idx → ℝ, Wk = fun i => (r i : EReal))
    ∧ (∃ r : S768.Idx → ℝ, bk = fun i => (r i : EReal)) ∧ (∃ r : S768.Idx → ℝ, bv = fun i => (r i : EReal))
    ∧ (∃ r : S768x768.Idx → ℝ, Wo = fun i => (r i : EReal)) := by
  have h' := congrFun h point
  unfold Cert.Pre_finite.fn Cert.Pre_finite.fn_part1 at h'
  obtain ⟨h', h8⟩ := IntOp.andi_eq_one.1 h'
  obtain ⟨h', h7⟩ := IntOp.andi_eq_one.1 h'
  obtain ⟨h', h5⟩ := IntOp.andi_eq_one.1 h'
  obtain ⟨h', h4⟩ := IntOp.andi_eq_one.1 h'
  obtain ⟨h', h3⟩ := IntOp.andi_eq_one.1 h'
  obtain ⟨h0, h2⟩ := IntOp.andi_eq_one.1 h'
  exact ⟨real_of_test x _ _ h0, real_of_test Wq _ _ h2, real_of_test bq _ _ h3, real_of_test Wk _ _ h4,
    real_of_test bk _ _ h5, real_of_test bv _ _ h7, real_of_test Wo _ _ h8⟩

end Cert.Attention

end
-- ==== Proof.Head.lean ====
/- One attention head of the kernel's body, read at an index.

   The body treats four heads of 64 columns, each in two chunks of 512 query rows, with the same
   operations every time. They are named once here (`chunk`, `head`), read at an index once, and the
   body's payloads are instances of them. -/
module

public import proofs.«01_k».proof.Proof.Gen.KernelIdeal.Skeleton
public import Idealize.ShloMosaic.Lib.Pipeline.ValueKit
public import Idealize.ShloMosaic.Lib.Pointwise

@[expose] public section

set_option maxRecDepth 16384

noncomputable section

namespace Cert.Attention

open Idealize.ShloMosaic Idealize.ShloMosaic.TcCoe Cert.KernelIdeal Cert.KernelIdeal.Gen

/-- The softmax average of the value rows for 512 query rows: scores, exponentials, their row sums,
    the average, and one division at the end. -/
def chunk (q : FVec Ideal S512x64 .f32) (k v : FVec Ideal S4096x64 .f32) : FVec Ideal S512x64 .f32 :=
  let e : FVec Ideal S512x4096 .f32 := exp (matmul dot_S512x64_S64x4096_S512x4096_1_0_0_1_n_n none q
    (transpose S64x4096 [1, 0] k transposes_S4096x64_p1_0_S64x4096) (constant S512x4096 .f32 0x00000000#32))
  divf (matmul dot_S512x4096_S4096x64_S512x64_1_0_0_1_n_n none e v (constant S512x64 .f32 0x00000000#32))
    (broadcastTo S512x64 (shapeCast S512x1
      (multiReduction .add [1] S512 e 0x00000000#32 reduces_S512x4096_S512 (.inl rfl) rfl)
      shapeCasts_S512_S512x1) broadcasts_S512x1_S512x64)

/-- One head: both chunks of the query rows, one under the other. -/
def head (q : FVec Ideal S1024x64 .f32) (k v : FVec Ideal S4096x64 .f32) : FVec Ideal S1024x64 .f32 :=
  concatenate S1024x64 0
    [⟨S512x64, chunk (extractStridedSlice S512x64 ![0, 0] q slices_S1024x64_o0_0_S512x64) k v⟩,
     ⟨S512x64, chunk (extractStridedSlice S512x64 ![512, 0] q slices_S1024x64_o512_0_S512x64) k v⟩]
    concatenates_S512x64_S512x64_S1024x64_d0

/-- `chunk` at an index. -/
theorem chunk_at (q : FVec Ideal S512x64 .f32) (k v : FVec Ideal S4096x64 .f32) (i : Fin 512) (d : Fin 64) :
    chunk q k v (ix2 i d)
      = Ideal.div (∑ j : Fin 4096, Ideal.exp (∑ a : Fin 64, q (ix2 i a) * k (ix2 j a)) * v (ix2 j d))
          (∑ j : Fin 4096, Ideal.exp (∑ a : Fin 64, q (ix2 i a) * k (ix2 j a))) := by
  pointwise [chunk]

/-- What one head leaves at a query row and one of its columns: the average of the value column by
    the exponentials of the scores, divided by their sum. The arguments are the query row, the keys
    by row and column of the head, and the value column. -/
def average (q : Fin 64 → EReal) (k : Fin 4096 → Fin 64 → EReal) (v : Fin 4096 → EReal) : EReal :=
  Ideal.div (∑ j : Fin 4096, Ideal.exp (∑ a : Fin 64, q a * k j a) * v j)
    (∑ j : Fin 4096, Ideal.exp (∑ a : Fin 64, q a * k j a))

/-- `head` at an index: both chunks compute the same function of their query row. -/
theorem head_at (q : FVec Ideal S1024x64 .f32) (k v : FVec Ideal S4096x64 .f32) (i : Fin 1024) (d : Fin 64) :
    head q k v (ix2 i d)
      = average (fun a => q (ix2 i a)) (fun j a => k (ix2 j a)) (fun j => v (ix2 j d)) := by
  unfold average
  pointwise [head, chunk_at]
  blk_point []

/-- `head` of 64 columns cut out of 256, at an index. -/
theorem head_slice_at (q : FVec Ideal S1024x256 .f32) (k v : FVec Ideal S4096x256 .f32) (o : ℕ)
    (hq : S1024x256.Slices ![0, o] S1024x64) (hk hv : S4096x256.Slices ![0, o] S4096x64)
    (i : Fin 1024) (d : Fin 64) (ho : o + 64 ≤ 256) :
    head (extractStridedSlice S1024x64 ![0, o] q hq) (extractStridedSlice S4096x64 ![0, o] k hk)
        (extractStridedSlice S4096x64 ![0, o] v hv) (ix2 i d)
      = average (fun a => q (ix2 i ⟨o + a, by omega⟩)) (fun j a => k (ix2 j ⟨o + a, by omega⟩))
          (fun j => v (ix2 j ⟨o + d, by omega⟩)) := by
  rw [head_at]
  unfold average
  pointwise []

/-- Column `d` of head `n` among the 256 columns of a group of four heads. -/
def col (n : Fin 4) (d : Fin 64) : Fin 256 := ⟨n * 64 + d, by omega⟩

/-- A sum over 256 columns is a sum over the four heads and their 64 columns. -/
theorem sum_col (f : Fin 256 → EReal) : ∑ x, f x = ∑ n : Fin 4, ∑ d : Fin 64, f (col n d) := by
  symm
  refine Fin.sum_mul_add_congr fun n d h => rfl

/-- The first head's payload is `head` of the first 64 columns. -/
theorem pay15_eq (v0 : Vec Ideal S1x4096x768 .f32) (v3 : Vec Ideal S1x768x256 .f32) (v7 : Vec Ideal S1x256 .f32)
    (v11 v14 : Vec Ideal S1x768x256 .f32) :
    k0_pay15 (k0_pay11 v0 v3 v7 v11 v14) (k0_pay13 v0 v3 v7 v11) (k0_pay14 v0 v3 v7 v11 v14)
      = head (extractStridedSlice S1024x64 ![0, 0] (k0_pay5 v0 v3 v7) slices_S1024x256_o0_0_S1024x64)
          (extractStridedSlice S4096x64 ![0, 0] (k0_pay6 v0 v11) slices_S4096x256_o0_0_S4096x64)
          (extractStridedSlice S4096x64 ![0, 0] (k0_pay7 v0 v14) slices_S4096x256_o0_0_S4096x64) := rfl

/-- The second head's payload is `head` of columns 64 to 127. -/
theorem pay16_eq (q : FVec Ideal S1024x256 .f32) (k v : FVec Ideal S4096x256 .f32) :
    k0_pay16 q k v
      = head (extractStridedSlice S1024x64 ![0, 64] q slices_S1024x256_o0_64_S1024x64)
          (extractStridedSlice S4096x64 ![0, 64] k slices_S4096x256_o0_64_S4096x64)
          (extractStridedSlice S4096x64 ![0, 64] v slices_S4096x256_o0_64_S4096x64) := rfl

/-- The third head's payload is `head` of columns 128 to 191. -/
theorem pay17_eq (q : FVec Ideal S1024x256 .f32) (k v : FVec Ideal S4096x256 .f32) :
    k0_pay17 q k v
      = head (extractStridedSlice S1024x64 ![0, 128] q slices_S1024x256_o0_128_S1024x64)
          (extractStridedSlice S4096x64 ![0, 128] k slices_S4096x256_o0_128_S4096x64)
          (extractStridedSlice S4096x64 ![0, 128] v slices_S4096x256_o0_128_S4096x64) := rfl

/-- The four heads of a group side by side. -/
def heads (h0 h1 h2 h3 : FVec Ideal S1024x64 .f32) : FVec Ideal S1024x256 .f32 :=
  concatenate S1024x256 1 [⟨S1024x64, h0⟩, ⟨S1024x64, h1⟩, ⟨S1024x64, h2⟩, ⟨S1024x64, h3⟩]
    concatenates_S1024x64_S1024x64_S1024x64_S1024x64_S1024x256_d1

/-- `heads` at a column of head `n` is that head. -/
theorem heads_at (h0 h1 h2 h3 : FVec Ideal S1024x64 .f32) (i : Fin 1024) (n : Fin 4) (d : Fin 64) :
    heads h0 h1 h2 h3 (ix2 i (col n d)) = (![h0, h1, h2, h3] n) (ix2 i d) := by
  match n with
  | 0 => show heads h0 h1 h2 h3 (ix2 i (col 0 d)) = h0 (ix2 i d); pointwise [heads, col]
  | 1 => show heads h0 h1 h2 h3 (ix2 i (col 1 d)) = h1 (ix2 i d); pointwise [heads, col]
  | 2 => show heads h0 h1 h2 h3 (ix2 i (col 2 d)) = h2 (ix2 i d); pointwise [heads, col]; blk_point [] <;> omega
  | 3 => show heads h0 h1 h2 h3 (ix2 i (col 3 d)) = h3 (ix2 i d); pointwise [heads, col]; blk_point [] <;> omega

/-- The group's product with its rows of the output weight, the fourth head written as `head` of
    columns 192 to 255. -/
theorem pay1_eq (q : FVec Ideal S1024x256 .f32) (k v : FVec Ideal S4096x256 .f32)
    (h0 h1 h2 : FVec Ideal S1024x64 .f32) (w : Vec Ideal S1x256x768 .f32) :
    k0_pay1 k v h0 h1 h2 (k0_pay18 q) w
      = matmul (φ₂ := .f32) dot_S1024x256_S256x768_S1024x768_1_0_0_1_n_n none
          (heads h0 h1 h2
            (head (extractStridedSlice S1024x64 ![0, 192] q slices_S1024x256_o0_192_S1024x64)
              (extractStridedSlice S4096x64 ![0, 192] k slices_S4096x256_o0_192_S4096x64)
              (extractStridedSlice S4096x64 ![0, 192] v slices_S4096x256_o0_192_S4096x64)))
          (shapeCast S256x768 w shapeCasts_S1x256x768_S256x768) (constant S1024x768 .f32 0x00000000#32) := rfl

/-- What one grid point adds to the output block: the product of the concatenated heads of the group
    with the group's rows of the output weight. The arguments are the point's blocks of the tokens, of
    the query weight and its bias, of the key, value and output weights. -/
def contrib (x : Vec Ideal S1x4096x768 .f32) (wq : Vec Ideal S1x768x256 .f32) (bq : Vec Ideal S1x256 .f32)
    (wk wv : Vec Ideal S1x768x256 .f32) (wo : Vec Ideal S1x256x768 .f32) : FVec Ideal S1024x768 .f32 :=
  k0_pay1 (k0_pay6 x wk) (k0_pay7 x wv)
    (k0_pay15 (k0_pay11 x wq bq wk wv) (k0_pay13 x wq bq wk) (k0_pay14 x wq bq wk wv))
    (k0_pay16 (k0_pay5 x wq bq) (k0_pay6 x wk) (k0_pay7 x wv))
    (k0_pay17 (k0_pay5 x wq bq) (k0_pay6 x wk) (k0_pay7 x wv))
    (k0_pay18 (k0_pay5 x wq bq)) wo

/-- What the first point of a batch stores: the constant row in every query row, plus the point's
    contribution. -/
theorem first_at (x : Vec Ideal S1x4096x768 .f32) (wq : Vec Ideal S1x768x256 .f32) (bq : Vec Ideal S1x256 .f32)
    (wk wv : Vec Ideal S1x768x256 .f32) (wo : Vec Ideal S1x256x768 .f32) (cv : Vec Ideal S1x768 .f32)
    (j : S1x1024x768.Idx) :
    k0_pay2 (k0_pay6 x wk) (k0_pay7 x wv)
      (k0_pay15 (k0_pay11 x wq bq wk wv) (k0_pay13 x wq bq wk) (k0_pay14 x wq bq wk wv))
      (k0_pay16 (k0_pay5 x wq bq) (k0_pay6 x wk) (k0_pay7 x wv))
      (k0_pay17 (k0_pay5 x wq bq) (k0_pay6 x wk) (k0_pay7 x wv))
      (k0_pay18 (k0_pay5 x wq bq)) wo cv j
      = cv (ix2 0 (j 2)) + contrib x wq bq wk wv wo (ix2 (j 1) (j 2)) := by
  unfold contrib
  pointwise [k0_pay2]

/-- What a later point of a batch stores: the block as the point before left it, plus the point's
    contribution. -/
theorem next_at (x : Vec Ideal S1x4096x768 .f32) (wq : Vec Ideal S1x768x256 .f32) (bq : Vec Ideal S1x256 .f32)
    (wk wv : Vec Ideal S1x768x256 .f32) (wo : Vec Ideal S1x256x768 .f32) (prev : Vec Ideal S1x1024x768 .f32)
    (j : S1x1024x768.Idx) :
    k0_pay3 (k0_pay6 x wk) (k0_pay7 x wv)
      (k0_pay15 (k0_pay11 x wq bq wk wv) (k0_pay13 x wq bq wk) (k0_pay14 x wq bq wk wv))
      (k0_pay16 (k0_pay5 x wq bq) (k0_pay6 x wk) (k0_pay7 x wv))
      (k0_pay17 (k0_pay5 x wq bq) (k0_pay6 x wk) (k0_pay7 x wv))
      (k0_pay18 (k0_pay5 x wq bq)) wo prev j
      = prev j + contrib x wq bq wk wv wo (ix2 (j 1) (j 2)) := by
  unfold contrib
  pointwise [k0_pay3]

/-- `contrib` at an index: four heads of 64 columns, each column's average times the output weight. -/
theorem contrib_at (x : Vec Ideal S1x4096x768 .f32) (wq : Vec Ideal S1x768x256 .f32) (bq : Vec Ideal S1x256 .f32)
    (wk wv : Vec Ideal S1x768x256 .f32) (wo : Vec Ideal S1x256x768 .f32) (i : Fin 1024) (l : Fin 768) :
    contrib x wq bq wk wv wo (ix2 i l)
      = ∑ n : Fin 4, ∑ d : Fin 64,
          average (fun a => (k0_pay5 x wq bq) (ix2 i (col n a))) (fun j a => k0_pay6 x wk (ix2 j (col n a)))
            (fun j => k0_pay7 x wv (ix2 j (col n d)))
          * wo (ix3 0 (col n d) l) := by
  rw [contrib, pay15_eq, pay16_eq, pay17_eq, pay1_eq]
  generalize k0_pay5 x wq bq = Q
  generalize k0_pay6 x wk = K
  generalize k0_pay7 x wv = V
  pointwise []
  rw [sum_col]
  refine Finset.sum_congr rfl fun n _ => Finset.sum_congr rfl fun d _ => ?_
  rw [heads_at]
  congr 1
  match n with
  | 0 => exact head_slice_at Q K V 0 _ _ _ i d (by decide)
  | 1 => exact head_slice_at Q K V 64 _ _ _ i d (by decide)
  | 2 => exact head_slice_at Q K V 128 _ _ _ i d (by decide)
  | 3 => exact head_slice_at Q K V 192 _ _ _ i d (by decide)

end Cert.Attention

end
-- ==== Proof.Reads.lean ====
/- The blocks a grid point reads, at an index, in terms of the arguments as launched: through the
   arrays the host prepares before the kernel starts. -/
module

public import proofs.«01_k».proof.Proof.Gen.KernelIdeal.Frame
public import proofs.«01_k».proof.Proof.Head

@[expose] public section

set_option maxRecDepth 16384

noncomputable section

namespace Cert.Attention

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The block indices of the windows at each grid point: the batch is the point's number over three,
    the group of heads its remainder. -/
theorem idx : ∀ t : Fin cfg0.N,
    win0_0.index t = ![t.val / 3, 0, 0] ∧ win0_1.index t = ![t.val % 3, 0, 0]
    ∧ win0_2.index t = ![t.val % 3, 0, 0] ∧ win0_3.index t = ![t.val % 3, 0, 0]
    ∧ win0_4.index t = ![t.val % 3, 0, 0] ∧ win0_5.index t = ![0, 0] ∧ win0_6.index t = ![0, 0]
    ∧ win0_7.index t = ![t.val / 3, 0, 0] :=
  (by decide +kernel : ∀ t : Fin grid0.N, _)

/-- The tokens, as launched. -/
abbrev argX (c : Dev nD) : FVec Ideal S4x4096x768 .f32 := m ((c : Thread nD τ).loc main_arg0)
/-- The query weight, as launched. -/
abbrev argWq (c : Dev nD) : FVec Ideal S768x768 .f32 := m ((c : Thread nD τ).loc main_arg2)
/-- The query bias, as launched. -/
abbrev argBq (c : Dev nD) : FVec Ideal S768 .f32 := m ((c : Thread nD τ).loc main_arg3)
/-- The key weight, as launched. -/
abbrev argWk (c : Dev nD) : FVec Ideal S768x768 .f32 := m ((c : Thread nD τ).loc main_arg4)
/-- The value weight, as launched. -/
abbrev argWv (c : Dev nD) : FVec Ideal S768x768 .f32 := m ((c : Thread nD τ).loc main_arg6)
/-- The value bias, as launched. -/
abbrev argBv (c : Dev nD) : FVec Ideal S768 .f32 := m ((c : Thread nD τ).loc main_arg7)
/-- The output weight, as launched. -/
abbrev argWo (c : Dev nD) : FVec Ideal S768x768 .f32 := m ((c : Thread nD τ).loc main_arg8)
/-- The output bias, as launched. -/
abbrev argBo (c : Dev nD) : FVec Ideal S768 .f32 := m ((c : Thread nD τ).loc main_arg9)

/-- The factor the host multiplies the query weight and bias by. -/
abbrev scale : EReal := Ideal.ofBits .f32 0x3E000000#32

/-- The row of the query bias the body loads at a grid point. -/
def biasRow (c : Dev nD) (t : Fin cfg0.N) : Vec Ideal S1x256 .f32 :=
  View.ld (iblk m c 5 t) (Rect.unit (k0_off1 (grid0.coords t)) ![1, 256] (k0_off1_inb (grid0.coords t)))

/-- The key block at an index: the token's row times the key weight's column. -/
theorem key_at (c : Dev nD) (t : Fin cfg0.N) (b : Fin 4) (hb : (b : ℕ) = t.val / 3) (j : Fin 4096)
    (x : Fin 256) (y : Fin 768) (hy : (y : ℕ) = t.val % 3 * 256 + x) :
    k0_pay6 (F := Ideal) (iblk m c 0 t) (iblk m c 2 t) (ix2 j x)
      = ∑ e : Fin 768, argX m c (ix3 b j e) * argWk m c (ix2 e y) := by
  pointwise [k0_pay6, k0_pay4]
  blk_point [iblk, V, idx t]

/-- The value block at an index: the token's row times the value weight's column. -/
theorem value_at (c : Dev nD) (t : Fin cfg0.N) (b : Fin 4) (hb : (b : ℕ) = t.val / 3) (j : Fin 4096)
    (x : Fin 256) (y : Fin 768) (hy : (y : ℕ) = t.val % 3 * 256 + x) :
    k0_pay7 (F := Ideal) (iblk m c 0 t) (iblk m c 3 t) (ix2 j x)
      = ∑ e : Fin 768, argX m c (ix3 b j e) * argWv m c (ix2 e y) := by
  pointwise [k0_pay7, k0_pay4]
  blk_point [iblk, V, idx t]

/-- The output weight's block at an index. -/
theorem outWeight_at (c : Dev nD) (t : Fin cfg0.N) (l : Fin 768)
    (x : Fin 256) (y : Fin 768) (hy : (y : ℕ) = t.val % 3 * 256 + x) :
    (show Vec Ideal S1x256x768 .f32 from iblk m c 4 t) (ix3 0 x l) = argWo m c (ix2 y l) := by
  blk_point [iblk, V, idx t]

end Cert.Attention

end
-- ==== Proof.Prepared.lean ====
/- The blocks a grid point reads through arrays the host computes first, at an index: the scaled query
   weight and bias, and the constant row. -/
module

public import proofs.«01_k».proof.Proof.Gen.KernelIdeal.Frame
public import proofs.«01_k».proof.Proof.Reads

@[expose] public section

set_option maxRecDepth 16384

noncomputable section

namespace Cert.Attention

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The row of the query bias a grid point loads is the point's group of heads. -/
theorem off : ∀ t : Fin cfg0.N, k0_off1 (grid0.coords t) = ![t.val % 3, 0] :=
  (by decide +kernel : ∀ t : Fin grid0.N, _)

/-- The constant row's block at an index: the value bias through the output weight, plus the output
    bias. -/
theorem constRow_at (c : Dev nD) (t : Fin cfg0.N) (l : Fin 768) :
    (show Vec Ideal S1x768 .f32 from iblk m c 6 t) (ix2 0 l)
      = (∑ e : Fin 768, argBv m c (ix1 e) * argWo m c (ix2 e l)) + argBo m c (ix1 l) := by
  blk_simp [iblk, idx t]
  entry_read
  pointwise []
  blk_point [idx t]

/-- The query weight's block at an index: the host has scaled it. -/
theorem queryWeight_at (c : Dev nD) (t : Fin cfg0.N) (e : Fin 768)
    (x : Fin 256) (y : Fin 768) (hy : (y : ℕ) = t.val % 3 * 256 + x) :
    (show Vec Ideal S1x768x256 .f32 from iblk m c 1 t) (ix3 0 e x) = argWq m c (ix2 e y) * scale := by
  blk_simp [iblk, idx t]
  entry_read
  pointwise []
  blk_point [idx t]

/-- The query bias's block at an index: the host has scaled it and cut it into three rows. -/
theorem queryBias_at (c : Dev nD) (t : Fin cfg0.N) (h : Fin 3)
    (x : Fin 256) (y : Fin 768) (hy : (y : ℕ) = h * 256 + x) :
    (show Vec Ideal S3x256 .f32 from iblk m c 5 t) (ix2 h x) = argBq m c (ix1 y) * scale := by
  blk_simp [iblk, idx t]
  entry_read
  pointwise []
  blk_point [idx t]

/-- A load of one row of three, at an index. -/
theorem row_at (B : Vec Ideal S3x256 .f32) (t : Fin cfg0.N) (h : Fin 3) (hh : (h : ℕ) = t.val % 3) (x : Fin 256) :
    View.ld B (Rect.unit (k0_off1 (grid0.coords t)) ![1, 256] (k0_off1_inb (grid0.coords t))) (ix2 0 x)
      = B (ix2 h x) := by
  have e0 : k0_off1 (grid0.coords t) 0 = t.val % 3 := by rw [off t]; rfl
  have e1 : k0_off1 (grid0.coords t) 1 = 0 := by rw [off t]; rfl
  pointwise []
  congr 1
  refine congrArg₂ ix2 (Fin.ext ?_) (Fin.ext ?_)
  · simp only [e0, hh]
  · simp only [e1, Nat.zero_add]

/-- The bias row at an index. -/
theorem biasRow_at (c : Dev nD) (t : Fin cfg0.N)
    (x : Fin 256) (y : Fin 768) (hy : (y : ℕ) = t.val % 3 * 256 + x) :
    biasRow m c t (ix2 0 x) = argBq m c (ix1 y) * scale :=
  (row_at (iblk m c 5 t) t ⟨t.val % 3, Nat.mod_lt _ (by decide)⟩ rfl x).trans (queryBias_at m c t _ x y hy)

/-- The scaled query block at an index. -/
theorem query_at (c : Dev nD) (t : Fin cfg0.N) (b : Fin 4) (hb : (b : ℕ) = t.val / 3) (i : Fin 1024)
    (r : Fin 4096) (hr : (r : ℕ) = i)
    (x : Fin 256) (y : Fin 768) (hy : (y : ℕ) = t.val % 3 * 256 + x) :
    k0_pay5 (F := Ideal) (iblk m c 0 t) (iblk m c 1 t) (biasRow m c t) (ix2 i x)
      = (∑ e : Fin 768, argX m c (ix3 b r e) * (argWq m c (ix2 e y) * scale)) + argBq m c (ix1 y) * scale := by
  simp only [← queryWeight_at m c t _ x y hy, ← biasRow_at m c t x y hy]
  pointwise [k0_pay5, k0_pay4]
  blk_point [iblk, V, idx t]

end Cert.Attention

end
-- ==== Proof.Block.lean ====
/- The kernel's result array: each batch's block starts from the constant row, and the three grid
   points of the batch each add their group of heads to it. -/
module

public import proofs.«01_k».proof.Proof.Gen.KernelIdeal.Frame
public import proofs.«01_k».proof.Proof.Prepared

@[expose] public section

set_option maxRecDepth 16384

noncomputable section

namespace Cert.Attention

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- One token through a weight: the row of token `r` of batch `b` times column `y`. -/
def proj (X : FVec Ideal S4x4096x768 .f32) (W : FVec Ideal S768x768 .f32) (b : Fin 4) (r : Fin 4096)
    (y : Fin 768) : EReal :=
  ∑ e : Fin 768, X (ix3 b r e) * W (ix2 e y)

/-- The kernel's query: weight and bias are scaled before they are used. -/
def scaledQuery (X : FVec Ideal S4x4096x768 .f32) (Wq : FVec Ideal S768x768 .f32) (bq : FVec Ideal S768 .f32)
    (b : Fin 4) (r : Fin 4096) (y : Fin 768) : EReal :=
  (∑ e : Fin 768, X (ix3 b r e) * (Wq (ix2 e y) * scale)) + bq (ix1 y) * scale

/-- Column `d` of head `n` of group `h`, among all 768. -/
def col3 (h : Fin 3) (n : Fin 4) (d : Fin 64) : Fin 768 := ⟨h * 256 + (n * 64 + d), by omega⟩

/-- What the kernel computes for query row `r` of batch `b` at output column `l`: the constant row plus,
    over all heads and their columns, the head's average of the value column times the output weight. -/
def kernelOut (X : FVec Ideal S4x4096x768 .f32) (Wq : FVec Ideal S768x768 .f32) (bq : FVec Ideal S768 .f32)
    (Wk Wv : FVec Ideal S768x768 .f32) (bv : FVec Ideal S768 .f32) (Wo : FVec Ideal S768x768 .f32)
    (bo : FVec Ideal S768 .f32) (b : Fin 4) (r : Fin 4096) (l : Fin 768) : EReal :=
  ((∑ e : Fin 768, bv (ix1 e) * Wo (ix2 e l)) + bo (ix1 l))
    + ∑ h : Fin 3, ∑ n : Fin 4, ∑ d : Fin 64,
        average (fun a => scaledQuery X Wq bq b r (col3 h n a)) (fun j a => proj X Wk b j (col3 h n a))
          (fun j => proj X Wv b j (col3 h n d)) * Wo (ix2 (col3 h n d) l)

variable (m : (ℓ : Loc nD τ sig) → Buf (Elt Ideal) ℓ)

/-- What a grid point adds to its output block. -/
def part (c : Dev nD) (t : Fin cfg0.N) : FVec Ideal S1024x768 .f32 :=
  contrib (iblk m c 0 t) (iblk m c 1 t) (biasRow m c t) (iblk m c 2 t) (iblk m c 3 t) (iblk m c 4 t)

/-- `part` at an index, over the arguments as launched. -/
theorem part_at (c : Dev nD) (t : Fin cfg0.N) (b : Fin 4) (hb : (b : ℕ) = t.val / 3) (h : Fin 3)
    (hh : (h : ℕ) = t.val % 3) (i : Fin 1024) (r : Fin 4096) (hr : (r : ℕ) = i) (l : Fin 768) :
    part m c t (ix2 i l)
      = ∑ n : Fin 4, ∑ d : Fin 64,
          average (fun a => scaledQuery (argX m c) (argWq m c) (argBq m c) b r (col3 h n a))
            (fun j a => proj (argX m c) (argWk m c) b j (col3 h n a))
            (fun j => proj (argX m c) (argWv m c) b j (col3 h n d)) * argWo m c (ix2 (col3 h n d) l) := by
  have hy : ∀ n d, (col3 h n d : ℕ) = t.val % 3 * 256 + (col n d : Fin 256) := fun n d => by
    simp only [col3, col, hh]
  rw [part, contrib_at]
  refine Finset.sum_congr rfl fun n _ => Finset.sum_congr rfl fun d _ => ?_
  refine congrArg₂ (· * ·) ?_ (outWeight_at m c t l (col n d) (col3 h n d) (hy n d))
  have e1 : (fun a => (k0_pay5 (F := Ideal) (iblk m c 0 t) (iblk m c 1 t) (biasRow m c t)) (ix2 i (col n a)))
      = fun a => scaledQuery (argX m c) (argWq m c) (argBq m c) b r (col3 h n a) :=
    funext fun a => query_at m c t b hb i r hr (col n a) (col3 h n a) (hy n a)
  have e2 : (fun j a => k0_pay6 (F := Ideal) (iblk m c 0 t) (iblk m c 2 t) (ix2 j (col n a)))
      = fun j a => proj (argX m c) (argWk m c) b j (col3 h n a) :=
    funext fun j => funext fun a => key_at m c t b hb j (col n a) (col3 h n a) (hy n a)
  have e3 : (fun j => k0_pay7 (F := Ideal) (iblk m c 0 t) (iblk m c 3 t) (ix2 j (col n d)))
      = fun j => proj (argX m c) (argWv m c) b j (col3 h n d) :=
    funext fun j => value_at m c t b hb j (col n d) (col3 h n d) (hy n d)
  rw [e1, e2, e3]

/-- The constant row at an output column. -/
def constRow (c : Dev nD) (l : Fin 768) : EReal :=
  (∑ e : Fin 768, argBv m c (ix1 e) * argWo m c (ix2 e l)) + argBo m c (ix1 l)

/-- What the first point of a batch leaves in the output block. -/
theorem outs_first (c : Dev nD) (t : Fin cfg0.N) (h : t.val % 3 = 0) (j : S1x1024x768.Idx) :
    outsAt0 m c t.val t.isLt j = constRow m c (j 2) + part m c t (ix2 (j 1) (j 2)) := by
  rw [outsAt0_A m c t h (by omega)]
  frame_out
  refine (first_at (iblk m c 0 t) (iblk m c 1 t) (biasRow m c t) (iblk m c 2 t) (iblk m c 3 t) (iblk m c 4 t)
    (iblk m c 6 t) j).trans ?_
  rw [part]
  exact congrArg (· + _) (constRow_at m c t (j 2))

/-- What a later point of a batch leaves in the output block. -/
theorem outs_next (c : Dev nD) (t : Fin cfg0.N) (h : ¬ t.val % 3 = 0) (j : S1x1024x768.Idx) :
    outsAt0 m c t.val t.isLt j
      = outsAt0 m c (t.val - 1) (Nat.lt_of_le_of_lt (Nat.sub_le _ _) t.isLt) j
        + part m c t (ix2 (j 1) (j 2)) := by
  rw [outsAt0_B m c t h (by omega)]
  frame_out
  exact next_at (iblk m c 0 t) (iblk m c 1 t) (biasRow m c t) (iblk m c 2 t) (iblk m c 3 t) (iblk m c 4 t)
    (outsAt0 m c (t.val - 1) (Nat.lt_of_le_of_lt (Nat.sub_le _ _) t.isLt)) j

/-- The kernel's result array after the run is `kernelOut` of the arguments, element by element. -/
theorem final (c : Dev nD) : (dats m 0 c).arrAt 7 (cfgs 0).N
    = fun j : S4x1024x768.Idx => kernelOut (argX m c) (argWq m c) (argBq m c) (argWk m c) (argWv m c) (argBv m c)
        (argWo m c) (argBo m c) (j 0) ((j 1).castLE (by decide)) (j 2) := by
  refine (dats m 0 c).arrAt_eq_of_covers 7 _ (by decide +kernel) fun t hf y => ?_
  have ht : t.val < 12 := lt_of_lt_of_eq t.isLt N_0
  have h2 := (flush0_7 t).mp hf
  blk_simp
  rw [after0_7, Pipeline.eq_sum_fin_of_reset_step_apply_of_flush (fun n h => outsAt0 m c n h) 3
    (fun j : S1x1024x768.Idx => constRow m c (j 2)) (fun t (j : S1x1024x768.Idx) => part m c t (ix2 (j 1) (j 2)))
    (outs_first m c) (outs_next m c) t h2 y]
  have e0 : (((win0_7.blk t).view.emb y) 0 : ℕ) = t.val / 3 := by
    blk_simp [idx t]
  have e1 : (((win0_7.blk t).view.emb y) 1 : ℕ) = (y 1 : ℕ) := by
    blk_simp [idx t]
  have e2 : (((win0_7.blk t).view.emb y) 2 : ℕ) = (y 2 : ℕ) := by
    blk_simp [idx t]
  have e2' : (show Fin 768 from ((win0_7.blk t).view.emb y) 2) = y 2 := Fin.ext e2
  generalize ((win0_7.blk t).view.emb y) = z at e0 e1 e2 e2' ⊢
  refine congrArg₂ (fun a b : EReal => a + b) (congrArg (constRow m c) e2'.symm) ?_
  refine Fin.sum_fin_congr fun s => ?_
  have ez : (show Fin 768 from z 2) = y 2 := e2'
  refine (part_at m c ⟨3 * (t.val / 3) + s.val, _⟩ (z 0) (by simp only [e0]; omega) s (by simp only []; omega)
    (y 1) ((show Fin 1024 from z 1).castLE (by decide)) e1 (y 2)).trans ?_
  rw [← e2']
  rfl

end Cert.Attention

end
-- ==== Proof.Reference.lean ====
/- The reference's result, cut into named stages, each read at an index: the heads of queries, keys and
   values, the scores, their largest, the softmax average, and the output layer. -/
module

public import proofs.«01_k».proof.Proof.Gen.ReferenceIdeal.Run
public import proofs.«01_k».proof.Proof.Numbers
public import Idealize.ShloMosaic.Lib.Pipeline.ValueKit
public import Idealize.ShloMosaic.Lib.Pointwise

@[expose] public section

set_option maxRecDepth 16384

noncomputable section

namespace Cert.Attention.Ref

open Idealize.ShloMosaic Idealize.ShloMosaic.TcCoe Idealize.SL.Sem Cert.ReferenceIdeal Cert.ReferenceIdeal.Gen
open Cert.ReferenceIdeal.Facts

/-- All tokens through one weight and bias, split into twelve heads of 64 columns. -/
def tokenHeads (X : FVec Ideal S4x4096x768 .f32) (W : FVec Ideal S768x768 .f32) (b : FVec Ideal S768 .f32) :
    FVec Ideal S4x12x4096x64 .f32 :=
  transpose S4x12x4096x64 [0, 2, 1, 3] (shapeCast S4x4096x12x64 (addf
    (Host.dotGeneral (φ₁ := .f32) (φ₂ := .f32) dot_S4x4096x768_S768x768_S4x4096x768_2_0_01_1_n_n none X W)
    (broadcastInDim S4x4096x768 ![0, 1, 2] bcast_S1x1x768_S4x4096x768_0_1_2
      (broadcastInDim S1x1x768 ![2] bcast_S768_S1x1x768_2 b))) shapeCasts_S4x4096x768_S4x4096x12x64)
    transposes_S4x4096x12x64_S4x12x4096x64_0_2_1_3

/-- The first 1024 tokens through the query weight and bias, split into twelve heads. -/
def queryHeads (X : FVec Ideal S4x4096x768 .f32) (W : FVec Ideal S768x768 .f32) (b : FVec Ideal S768 .f32) :
    FVec Ideal S4x12x1024x64 .f32 :=
  transpose S4x12x1024x64 [0, 2, 1, 3] (shapeCast S4x1024x12x64 (addf
    (Host.dotGeneral (φ₁ := .f32) (φ₂ := .f32) dot_S4x1024x768_S768x768_S4x1024x768_2_0_01_1_n_n none
      (extractStridedSlice S4x1024x768 ![0, 0, 0] X slices_S4x4096x768_S4x1024x768_0_0_0) W)
    (broadcastInDim S4x1024x768 ![0, 1, 2] bcast_S1x1x768_S4x1024x768_0_1_2
      (broadcastInDim S1x1x768 ![2] bcast_S768_S1x1x768_2 b))) shapeCasts_S4x1024x768_S4x1024x12x64)
    transposes_S4x1024x12x64_S4x12x1024x64_0_2_1_3

/-- The scores: queries times keys over the square root of 64. -/
def scores (Q : FVec Ideal S4x12x1024x64 .f32) (K : FVec Ideal S4x12x4096x64 .f32) :
    FVec Ideal S4x12x1024x4096 .f32 :=
  Host.divf (Host.dotGeneral dot_S4x12x1024x64_S4x12x4096x64_S4x12x1024x4096_3_3_2_2_01_01 none Q K)
    (broadcastInDim S4x12x1024x4096 ![] bcast_S_S4x12x1024x4096 (Host.sqrt (constant S_ .f32 0x42800000#32)))

/-- The largest score of every query row. -/
def largest (T : FVec Ideal S4x12x1024x4096 .f32) : FVec Ideal S4x12x1024 .f32 :=
  maximumf (broadcastInDim S4x12x1024 ![] bcast_S_S4x12x1024 (constant S_ .f32 0xFF800000#32))
    (Host.reduce FloatOps.maximumf T (constant S_ .f32 0xFF800000#32) reducesTo_S4x12x1024x4096_S4x12x1024_d3 h_S_)

/-- The exponentials of the scores less a number per query row. -/
def exponentials (T : FVec Ideal S4x12x1024x4096 .f32) (M : FVec Ideal S4x12x1024 .f32) :
    FVec Ideal S4x12x1024x4096 .f32 :=
  Host.exp (subf T (broadcastInDim S4x12x1024x4096 ![0, 1, 2, 3] bcast_S4x12x1024x1_S4x12x1024x4096_0_1_2_3
    (broadcastInDim S4x12x1024x1 ![0, 1, 2] bcast_S4x12x1024_S4x12x1024x1_0_1_2 M)))

/-- The values averaged by the exponentials, each divided by its row's sum. -/
def mix (E : FVec Ideal S4x12x1024x4096 .f32) (V : FVec Ideal S4x12x4096x64 .f32) :
    FVec Ideal S4x12x1024x64 .f32 :=
  Host.dotGeneral dot_S4x12x1024x4096_S4x12x4096x64_S4x12x1024x64_3_2_2_3_01_01 none
    (Host.divf E (broadcastInDim S4x12x1024x4096 ![0, 1, 2, 3] bcast_S4x12x1024x1_S4x12x1024x4096_0_1_2_3
      (broadcastInDim S4x12x1024x1 ![0, 1, 2] bcast_S4x12x1024_S4x12x1024x1_0_1_2
        (Host.reduceAdd E (constant S_ .f32 0x00000000#32) reducesTo_S4x12x1024x4096_S4x12x1024_d3 h_S_)))) V

/-- The heads side by side again, through the output weight and bias. -/
def output (O : FVec Ideal S4x12x1024x64 .f32) (W : FVec Ideal S768x768 .f32) (b : FVec Ideal S768 .f32) :
    FVec Ideal S4x1024x768 .f32 :=
  addf (Host.dotGeneral (φ₁ := .f32) (φ₂ := .f32) dot_S4x1024x768_S768x768_S4x1024x768_2_0_01_1_n_n none
      (shapeCast S4x1024x768 (transpose S4x1024x12x64 [0, 2, 1, 3] O transposes_S4x12x1024x64_S4x1024x12x64_0_2_1_3)
        shapeCasts_S4x1024x12x64_S4x1024x768) W)
    (broadcastInDim S4x1024x768 ![0, 1, 2] bcast_S1x1x768_S4x1024x768_0_1_2
      (broadcastInDim S1x1x768 ![2] bcast_S768_S1x1x768_2 b))

/-- All stages together. -/
def whole (X : FVec Ideal S4x4096x768 .f32) (Wq : FVec Ideal S768x768 .f32) (bq : FVec Ideal S768 .f32)
    (Wk : FVec Ideal S768x768 .f32) (bk : FVec Ideal S768 .f32) (Wv : FVec Ideal S768x768 .f32)
    (bv : FVec Ideal S768 .f32) (Wo : FVec Ideal S768x768 .f32) (bo : FVec Ideal S768 .f32) :
    FVec Ideal S4x1024x768 .f32 :=
  output (mix (exponentials (scores (queryHeads X Wq bq) (tokenHeads X Wk bk))
    (largest (scores (queryHeads X Wq bq) (tokenHeads X Wk bk)))) (tokenHeads X Wv bv)) Wo bo

/-- The reference's result is the stages applied to its arguments. -/
theorem result_eq (m : (ℓ : Loc nD τ sig) → Buf (Elt Ideal) ℓ) (c : Dev nD) :
    Cert.ReferenceIdeal.Value.res_out0 m c
      = whole (m ((c : Thread nD τ).loc main_arg0)) (m ((c : Thread nD τ).loc main_arg2))
          (m ((c : Thread nD τ).loc main_arg3)) (m ((c : Thread nD τ).loc main_arg4))
          (m ((c : Thread nD τ).loc main_arg5)) (m ((c : Thread nD τ).loc main_arg6))
          (m ((c : Thread nD τ).loc main_arg7)) (m ((c : Thread nD τ).loc main_arg8))
          (m ((c : Thread nD τ).loc main_arg9)) := by
  unfold Cert.ReferenceIdeal.Value.res_out0 Cert.ReferenceIdeal.Value.res_main_v40
  rfl

/-- A token's head at an index. -/
theorem tokenHeads_at (X : FVec Ideal S4x4096x768 .f32) (W : FVec Ideal S768x768 .f32) (b : FVec Ideal S768 .f32)
    (p : Fin 4) (h : Fin 12) (j : Fin 4096) (d : Fin 64) :
    tokenHeads X W b (ix4 p h j d)
      = (∑ e : Fin 768, X (ix3 p j e) * W (ix2 e ⟨h * 64 + d, by omega⟩)) + b (ix1 ⟨h * 64 + d, by omega⟩) := by
  pointwise [tokenHeads]

/-- A query head at an index. -/
theorem queryHeads_at (X : FVec Ideal S4x4096x768 .f32) (W : FVec Ideal S768x768 .f32) (b : FVec Ideal S768 .f32)
    (p : Fin 4) (h : Fin 12) (i : Fin 1024) (d : Fin 64) :
    queryHeads X W b (ix4 p h i d)
      = (∑ e : Fin 768, X (ix3 p (i.castLE (by decide)) e) * W (ix2 e ⟨h * 64 + d, by omega⟩))
        + b (ix1 ⟨h * 64 + d, by omega⟩) := by
  pointwise [queryHeads]
  rfl

/-- A score at an index. -/
theorem scores_at (Q : FVec Ideal S4x12x1024x64 .f32) (K : FVec Ideal S4x12x4096x64 .f32)
    (p : Fin 4) (h : Fin 12) (i : Fin 1024) (j : Fin 4096) :
    scores Q K (ix4 p h i j)
      = Ideal.div (∑ a : Fin 64, Q (ix4 p h i a) * K (ix4 p h j a)) (Ideal.sqrt (Ideal.ofBits .f32 0x42800000#32)) := by
  pointwise [scores]

/-- The maximum with minus infinity changes nothing. -/
theorem max_negInf (R : FVec Ideal S4x12x1024 .f32) :
    maximumf (broadcastInDim S4x12x1024 ![] bcast_S_S4x12x1024 (constant S_ .f32 0xFF800000#32)) R = R := by
  funext x
  show max (Ideal.ofBits .f32 0xFF800000#32) (R x) = R x
  rw [negInf_eq]
  exact max_bot_left _

/-- A score's index reduces into its query row. -/
theorem drop_row (p : Fin 4) (h : Fin 12) (i : Fin 1024) (j : Fin 4096) :
    reducesTo_S4x12x1024x4096_S4x12x1024_d3.drop (ix4 p h i j) = ix3 p h i := by
  funext b
  apply Fin.ext
  match b with
  | 0 => exact reducesTo_S4x12x1024x4096_S4x12x1024_d3.drop_apply_val_of_eq (ix4 p h i j) 0 0
  | 1 => exact reducesTo_S4x12x1024x4096_S4x12x1024_d3.drop_apply_val_of_eq (ix4 p h i j) 1 1
  | 2 => exact reducesTo_S4x12x1024x4096_S4x12x1024_d3.drop_apply_val_of_eq (ix4 p h i j) 2 2

/-- The largest of a row of real scores is a real number. -/
theorem largest_real (T : FVec Ideal S4x12x1024x4096 .f32) (t : S4x12x1024x4096.Idx → ℝ)
    (ht : ∀ x, T x = (t x : EReal)) (p : Fin 4) (h : Fin 12) (i : Fin 1024) :
    ∃ M : ℝ, largest T (ix3 p h i) = (M : EReal) := by
  rw [largest, max_negInf]
  exact reduce_max_real T (constant S_ .f32 0xFF800000#32) reducesTo_S4x12x1024x4096_S4x12x1024_d3 h_S_
    (ix3 p h i) negInf_eq t ht (ix4 p h i 0) (drop_row p h i 0)

/-- An exponential at an index. -/
theorem exponentials_at (T : FVec Ideal S4x12x1024x4096 .f32) (M : FVec Ideal S4x12x1024 .f32)
    (p : Fin 4) (h : Fin 12) (i : Fin 1024) (j : Fin 4096) :
    exponentials T M (ix4 p h i j) = Ideal.exp (T (ix4 p h i j) - M (ix3 p h i)) := by
  pointwise [exponentials]

/-- The average at an index. -/
theorem mix_at (E : FVec Ideal S4x12x1024x4096 .f32) (V : FVec Ideal S4x12x4096x64 .f32)
    (p : Fin 4) (h : Fin 12) (i : Fin 1024) (d : Fin 64) :
    mix E V (ix4 p h i d)
      = ∑ j : Fin 4096, Ideal.div (E (ix4 p h i j)) (∑ j' : Fin 4096, E (ix4 p h i j')) * V (ix4 p h j d) := by
  pointwise [mix]

/-- The output at an index: a sum over the heads and their columns. -/
theorem output_at (O : FVec Ideal S4x12x1024x64 .f32) (W : FVec Ideal S768x768 .f32) (b : FVec Ideal S768 .f32)
    (p : Fin 4) (i : Fin 1024) (l : Fin 768) :
    output O W b (ix3 p i l)
      = (∑ e : Fin 768, O (ix4 p ⟨e / 64, by omega⟩ i ⟨e % 64, by omega⟩) * W (ix2 e l)) + b (ix1 l) := by
  pointwise [output]

end Cert.Attention.Ref

end
-- ==== Proof.Softmax.lean ====
/- The extended-real arithmetic of one softmax average.

   The reference subtracts the largest score, divides each exponential by their sum and averages
   `value + bias`. The kernel averages `value` with the exponentials of scores that differ by one
   constant from the reference's, divides once at the end, and adds the bias afterwards. When the
   scores and the bias are real numbers the two agree, whatever extended reals the values are. -/
module

public import Idealize.ShloMosaic.Lib.Pointwise

@[expose] public section

noncomputable section

namespace Cert.Attention

open Idealize.ShloMosaic

/-- Dividing a real number by a real number other than zero is the division of real numbers. -/
theorem div_coe (a b : ℝ) (hb : b ≠ 0) : Ideal.div (a : EReal) (b : EReal) = ((a / b : ℝ) : EReal) := by
  have h : (b : EReal) ≠ 0 := by exact_mod_cast hb
  rw [Ideal.div, if_neg h, div_eq_mul_inv, EReal.coe_mul, EReal.coe_inv]

/-- The exponential of a real number is the real exponential. -/
theorem exp_coe (a : ℝ) : Ideal.exp (a : EReal) = ((Real.exp a : ℝ) : EReal) := rfl

/-- A nonnegative real factor goes into a finite sum of extended reals. -/
theorem sum_mul_coe {K : Type} (S : Finset K) (f : K → EReal) (a : ℝ) (ha : 0 ≤ a) :
    (∑ k ∈ S, f k) * (a : EReal) = ∑ k ∈ S, f k * (a : EReal) := by
  classical
  have h0 : (0 : EReal) ≤ (a : EReal) := by exact_mod_cast ha
  induction S using Finset.induction_on with
  | empty => simp
  | insert x S hx ih =>
    rw [Finset.sum_insert hx, Finset.sum_insert hx, ← ih,
      EReal.right_distrib_of_nonneg_of_ne_top h0 (EReal.coe_ne_top a)]

/-- A finite sum of real numbers is the real sum. -/
theorem coe_sum {K : Type} (S : Finset K) (f : K → ℝ) :
    ∑ k ∈ S, (f k : EReal) = ((∑ k ∈ S, f k : ℝ) : EReal) := by
  classical
  induction S using Finset.induction_on with
  | empty => simp
  | insert x S hx ih => rw [Finset.sum_insert hx, Finset.sum_insert hx, ih, EReal.coe_add]

/-- Multiplying by a real number distributes over adding a real number to any extended real. -/
theorem add_coe_mul_coe (o : EReal) (b w : ℝ) :
    (o + (b : EReal)) * (w : EReal) = o * (w : EReal) + (b : EReal) * (w : EReal) := by
  induction o using EReal.rec with
  | coe r => norm_cast; ring
  | top =>
    rw [EReal.top_add_coe]
    rcases lt_trichotomy w 0 with h | h | h
    · rw [EReal.top_mul_coe_of_neg h, ← EReal.coe_mul, EReal.bot_add]
    · subst h; simp
    · rw [EReal.top_mul_coe_of_pos h, ← EReal.coe_mul, EReal.top_add_coe]
  | bot =>
    rw [EReal.bot_add]
    rcases lt_trichotomy w 0 with h | h | h
    · rw [EReal.bot_mul_coe_of_neg h, ← EReal.coe_mul, EReal.top_add_coe]
    · subst h; simp
    · rw [EReal.bot_mul_coe_of_pos h, ← EReal.coe_mul, EReal.bot_add]

/-- The softmax average of `value + bias` over scores that are all shifted by the same constants is
    the average of `value` by plain exponentials, divided once, plus the bias. -/
theorem softmax_average {K : Type} [Fintype K] [Nonempty K] (s : K → ℝ) (C M β : ℝ) (v : K → EReal) :
    ∑ k, Ideal.div (Ideal.exp (((s k + C : ℝ) : EReal) - (M : EReal)))
        (∑ k', Ideal.exp (((s k' + C : ℝ) : EReal) - (M : EReal))) * (v k + (β : EReal))
      = Ideal.div (∑ k, Ideal.exp (s k : EReal) * v k) (∑ k, Ideal.exp (s k : EReal)) + (β : EReal) := by
  have hD : 0 < ∑ k, Real.exp (s k) := Finset.sum_pos (fun k _ => Real.exp_pos _) Finset.univ_nonempty
  set D := ∑ k, Real.exp (s k) with hDdef
  have hw : ∀ k, Ideal.div (Ideal.exp (((s k + C : ℝ) : EReal) - (M : EReal)))
      (∑ k', Ideal.exp (((s k' + C : ℝ) : EReal) - (M : EReal))) = ((Real.exp (s k) / D : ℝ) : EReal) := by
    intro k
    have e : ∀ k, Real.exp (s k + C - M) = Real.exp (s k) * Real.exp (C - M) := fun k => by
      rw [← Real.exp_add]; congr 1; ring
    simp only [← EReal.coe_sub, exp_coe, coe_sum, e, ← Finset.sum_mul]
    rw [div_coe _ _ (mul_pos hD (Real.exp_pos _)).ne']
    congr 1
    rw [mul_div_mul_right _ _ (Real.exp_pos _).ne']
  have hn : ∀ k, (0 : EReal) ≤ ((Real.exp (s k) / D : ℝ) : EReal) := fun k => by
    exact_mod_cast (div_pos (Real.exp_pos _) hD).le
  simp only [hw]
  simp only [EReal.left_distrib_of_nonneg_of_ne_top (hn _) (EReal.coe_ne_top _), Finset.sum_add_distrib]
  congr 1
  · simp only [exp_coe, coe_sum]
    have h0 : ((D : ℝ) : EReal) ≠ 0 := by exact_mod_cast hD.ne'
    rw [← hDdef, Ideal.div, if_neg h0, ← EReal.coe_inv, sum_mul_coe _ _ _ (inv_pos.mpr hD).le]
    refine Finset.sum_congr rfl fun k _ => ?_
    rw [div_eq_mul_inv, EReal.coe_mul, mul_right_comm]
  · simp only [← EReal.coe_mul, coe_sum, ← Finset.sum_mul, ← Finset.sum_div]
    rw [← hDdef, div_self hD.ne', one_mul]

end Cert.Attention

end
-- ==== Proof.Equation.lean ====
/- The equation of the two results: for real tokens, query and key weights and biases, value bias and
   output weight, the reference's attention is the kernel's.

   Each score of the reference is the kernel's score plus a number that depends on the query row only (the
   query times the key bias), which the softmax cancels, as it cancels the row's largest score. The value
   bias leaves the average unchanged in size, because the softmax weights add up to one. -/
module

public import proofs.«01_k».proof.Proof.Block
public import proofs.«01_k».proof.Proof.Reference
public import proofs.«01_k».proof.Proof.Softmax

@[expose] public section

set_option maxRecDepth 16384

noncomputable section

namespace Cert.Attention

open Idealize.ShloMosaic Cert.KernelIdeal

/-- Column `d` of head `h`, among all 768. -/
def headCol (h : Fin 12) (d : Fin 64) : Fin 768 := ⟨h * 64 + d, by omega⟩

/-- A token through a weight, over real numbers. -/
def realProj (X : S4x4096x768.Idx → ℝ) (W : S768x768.Idx → ℝ) (b : Fin 4) (r : Fin 4096) (y : Fin 768) : ℝ :=
  ∑ e : Fin 768, X (ix3 b r e) * W (ix2 e y)

/-- A query over real numbers. -/
def realQuery (X : S4x4096x768.Idx → ℝ) (W : S768x768.Idx → ℝ) (c : S768.Idx → ℝ) (b : Fin 4) (r : Fin 4096)
    (y : Fin 768) : ℝ :=
  realProj X W b r y + c (ix1 y)

variable {X : FVec Ideal S4x4096x768 .f32} {Wq : FVec Ideal S768x768 .f32} {bq : FVec Ideal S768 .f32}
  {Wk : FVec Ideal S768x768 .f32} {bk bv : FVec Ideal S768 .f32} {Wo : FVec Ideal S768x768 .f32}
  {rX : S4x4096x768.Idx → ℝ} {rWq : S768x768.Idx → ℝ} {rbq : S768.Idx → ℝ}
  {rWk : S768x768.Idx → ℝ} {rbk rbv : S768.Idx → ℝ} {rWo : S768x768.Idx → ℝ}

/-- A real token through a real weight is real. -/
theorem proj_coe (hX : ∀ i, X i = (rX i : EReal)) (hWk : ∀ i, Wk i = (rWk i : EReal)) (b : Fin 4) (r : Fin 4096)
    (y : Fin 768) : proj X Wk b r y = (realProj rX rWk b r y : EReal) := by
  rw [proj, realProj, ← coe_sum]
  exact Finset.sum_congr rfl fun e _ => by rw [hX, hWk, EReal.coe_mul]

/-- The kernel's scale is a real number. -/
theorem scale_coe : scale = ((1 / 8 : ℝ) : EReal) := scale_eq

/-- The kernel's scaled query is the query over eight. -/
theorem scaledQuery_coe (hX : ∀ i, X i = (rX i : EReal)) (hWq : ∀ i, Wq i = (rWq i : EReal))
    (hbq : ∀ i, bq i = (rbq i : EReal)) (b : Fin 4) (r : Fin 4096) (y : Fin 768) :
    scaledQuery X Wq bq b r y = ((realQuery rX rWq rbq b r y / 8 : ℝ) : EReal) := by
  have e : (∑ e : Fin 768, X (ix3 b r e) * (Wq (ix2 e y) * scale))
      = ((∑ e : Fin 768, rX (ix3 b r e) * (rWq (ix2 e y) * (1 / 8)) : ℝ) : EReal) := by
    rw [← coe_sum]
    exact Finset.sum_congr rfl fun e _ => by
      rw [hX, hWq, scale_coe, EReal.coe_mul, EReal.coe_mul]
  rw [scaledQuery, e, hbq, scale_coe, ← EReal.coe_mul, ← EReal.coe_add]
  refine congrArg _ ?_
  rw [realQuery, realProj, add_div, Finset.sum_div]
  refine congrArg₂ (· + ·) (Finset.sum_congr rfl fun e _ => by ring) (by ring)

/-- A key head of the reference is real. -/
theorem tokenHeads_coe (hX : ∀ i, X i = (rX i : EReal)) (hWk : ∀ i, Wk i = (rWk i : EReal))
    (hbk : ∀ i, bk i = (rbk i : EReal)) (p : Fin 4) (h : Fin 12) (j : Fin 4096) (d : Fin 64) :
    Ref.tokenHeads X Wk bk (ix4 p h j d) = (realQuery rX rWk rbk p j (headCol h d) : EReal) := by
  rw [Ref.tokenHeads_at, realQuery, EReal.coe_add, ← proj_coe hX hWk, ← hbk]
  rfl

/-- A query head of the reference is real. -/
theorem queryHeads_coe (hX : ∀ i, X i = (rX i : EReal)) (hWq : ∀ i, Wq i = (rWq i : EReal))
    (hbq : ∀ i, bq i = (rbq i : EReal)) (p : Fin 4) (h : Fin 12) (i : Fin 1024) (d : Fin 64) :
    Ref.queryHeads X Wq bq (ix4 p h i d)
      = (realQuery rX rWq rbq p (i.castLE (by decide)) (headCol h d) : EReal) := by
  rw [Ref.queryHeads_at, realQuery, EReal.coe_add, ← proj_coe hX hWq, ← hbq]
  rfl

/-- A score over real numbers, without the key bias. -/
def realScore (X : S4x4096x768.Idx → ℝ) (Wq : S768x768.Idx → ℝ) (bq : S768.Idx → ℝ) (Wk : S768x768.Idx → ℝ)
    (p : Fin 4) (h : Fin 12) (r j : Fin 4096) : ℝ :=
  ∑ a : Fin 64, realQuery X Wq bq p r (headCol h a) / 8 * realProj X Wk p j (headCol h a)

/-- What the key bias adds to every score of a query row. -/
def rowShift (X : S4x4096x768.Idx → ℝ) (Wq : S768x768.Idx → ℝ) (bq bk : S768.Idx → ℝ)
    (p : Fin 4) (h : Fin 12) (r : Fin 4096) : ℝ :=
  ∑ a : Fin 64, realQuery X Wq bq p r (headCol h a) / 8 * bk (ix1 (headCol h a))

/-- A score of the reference: the score without the key bias, plus the row's shift. -/
theorem scores_coe (hX : ∀ i, X i = (rX i : EReal)) (hWq : ∀ i, Wq i = (rWq i : EReal))
    (hbq : ∀ i, bq i = (rbq i : EReal)) (hWk : ∀ i, Wk i = (rWk i : EReal)) (hbk : ∀ i, bk i = (rbk i : EReal))
    (p : Fin 4) (h : Fin 12) (i : Fin 1024) (j : Fin 4096) :
    Ref.scores (Ref.queryHeads X Wq bq) (Ref.tokenHeads X Wk bk) (ix4 p h i j)
      = ((realScore rX rWq rbq rWk p h (i.castLE (by decide)) j
          + rowShift rX rWq rbq rbk p h (i.castLE (by decide)) : ℝ) : EReal) := by
  have e : (∑ a : Fin 64, Ref.queryHeads X Wq bq (ix4 p h i a) * Ref.tokenHeads X Wk bk (ix4 p h j a))
      = ((∑ a : Fin 64, realQuery rX rWq rbq p (i.castLE (by decide)) (headCol h a)
          * realQuery rX rWk rbk p j (headCol h a) : ℝ) : EReal) := by
    rw [← coe_sum]
    exact Finset.sum_congr rfl fun a _ => by
      rw [queryHeads_coe hX hWq hbq, tokenHeads_coe hX hWk hbk, EReal.coe_mul]
  rw [Ref.scores_at, e, sqrt64_eq, div_coe _ _ (by norm_num)]
  refine congrArg _ ?_
  rw [realScore, rowShift, ← Finset.sum_add_distrib, Finset.sum_div]
  refine Finset.sum_congr rfl fun a _ => ?_
  rw [realQuery.eq_1 rX rWk]
  ring

/-- The average a head computes for one query row and one of its columns, over the kernel's terms. -/
def headAverage (X : FVec Ideal S4x4096x768 .f32) (Wq : FVec Ideal S768x768 .f32) (bq : FVec Ideal S768 .f32)
    (Wk Wv : FVec Ideal S768x768 .f32) (p : Fin 4) (r : Fin 4096) (y : Fin 64 → Fin 768) (z : Fin 768) : EReal :=
  average (fun a => scaledQuery X Wq bq p r (y a)) (fun j a => proj X Wk p j (y a)) (fun j => proj X Wv p j z)

/-- The average over real scores. -/
theorem headAverage_coe (hX : ∀ i, X i = (rX i : EReal)) (hWq : ∀ i, Wq i = (rWq i : EReal))
    (hbq : ∀ i, bq i = (rbq i : EReal)) (hWk : ∀ i, Wk i = (rWk i : EReal)) (Wv : FVec Ideal S768x768 .f32)
    (p : Fin 4) (h : Fin 12) (r : Fin 4096) (z : Fin 768) :
    headAverage X Wq bq Wk Wv p r (headCol h) z
      = Ideal.div (∑ j, Ideal.exp (realScore rX rWq rbq rWk p h r j : EReal) * proj X Wv p j z)
          (∑ j, Ideal.exp (realScore rX rWq rbq rWk p h r j : EReal)) := by
  have e : ∀ j : Fin 4096, (∑ a : Fin 64, scaledQuery X Wq bq p r (headCol h a) * proj X Wk p j (headCol h a))
      = (realScore rX rWq rbq rWk p h r j : EReal) := fun j => by
    rw [realScore, ← coe_sum]
    exact Finset.sum_congr rfl fun a _ => by rw [scaledQuery_coe hX hWq hbq, proj_coe hX hWk, EReal.coe_mul]
  rw [headAverage, average]
  simp only [e]

/-- A head of the reference is the kernel's average plus the value bias. -/
theorem mix_coe (hX : ∀ i, X i = (rX i : EReal)) (hWq : ∀ i, Wq i = (rWq i : EReal))
    (hbq : ∀ i, bq i = (rbq i : EReal)) (hWk : ∀ i, Wk i = (rWk i : EReal)) (hbk : ∀ i, bk i = (rbk i : EReal))
    (Wv : FVec Ideal S768x768 .f32) (hbv : ∀ i, bv i = (rbv i : EReal))
    (p : Fin 4) (h : Fin 12) (i : Fin 1024) (d : Fin 64) :
    Ref.mix (Ref.exponentials (Ref.scores (Ref.queryHeads X Wq bq) (Ref.tokenHeads X Wk bk))
        (Ref.largest (Ref.scores (Ref.queryHeads X Wq bq) (Ref.tokenHeads X Wk bk)))) (Ref.tokenHeads X Wv bv)
        (ix4 p h i d)
      = headAverage X Wq bq Wk Wv p (i.castLE (by decide)) (headCol h) (headCol h d)
        + (rbv (ix1 (headCol h d)) : EReal) := by
  have hs := scores_coe hX hWq hbq hWk hbk
  generalize hT : Ref.scores (Ref.queryHeads X Wq bq) (Ref.tokenHeads X Wk bk) = T at hs ⊢
  obtain ⟨M, hM⟩ := Ref.largest_real T
    (fun x => realScore rX rWq rbq rWk (x 0) (x 1) ((x 2).castLE (by decide)) (x 3)
      + rowShift rX rWq rbq rbk (x 0) (x 1) ((x 2).castLE (by decide)))
    (fun x => (congrArg T (eq_ix4 x)).trans (hs (x 0) (x 1) (x 2) (x 3))) p h i
  have hv : ∀ j : Fin 4096, Ref.tokenHeads X Wv bv (ix4 p h j d)
      = proj X Wv p j (headCol h d) + (rbv (ix1 (headCol h d)) : EReal) := fun j => by
    rw [Ref.tokenHeads_at, ← hbv]
    rfl
  rw [Ref.mix_at, headAverage_coe hX hWq hbq hWk]
  simp only [Ref.exponentials_at, hs, hM, hv]
  exact softmax_average _ _ _ _ _

/-- The sum over all columns, head by head. -/
theorem sum_heads (f : Fin 768 → EReal) :
    (∑ h : Fin 3, ∑ n : Fin 4, ∑ d : Fin 64, f (col3 h n d)) = ∑ e : Fin 768, f e := by
  have e : ∀ h : Fin 3, (∑ n : Fin 4, ∑ d : Fin 64, f (col3 h n d))
      = ∑ k : Fin 256, f ⟨h * 256 + k, by omega⟩ := fun h =>
    Fin.sum_mul_add_congr fun n d hl => rfl
  rw [Finset.sum_congr rfl fun h _ => e h]
  exact Fin.sum_mul_add_congr fun h k hl => rfl

/-- The two results are equal. -/
theorem whole_eq (hX : ∀ i, X i = (rX i : EReal)) (hWq : ∀ i, Wq i = (rWq i : EReal))
    (hbq : ∀ i, bq i = (rbq i : EReal)) (hWk : ∀ i, Wk i = (rWk i : EReal)) (hbk : ∀ i, bk i = (rbk i : EReal))
    (Wv : FVec Ideal S768x768 .f32) (hbv : ∀ i, bv i = (rbv i : EReal)) (hWo : ∀ i, Wo i = (rWo i : EReal))
    (bo : FVec Ideal S768 .f32) (p : Fin 4) (i : Fin 1024) (l : Fin 768) :
    Ref.whole X Wq bq Wk bk Wv bv Wo bo (ix3 p i l)
      = kernelOut X Wq bq Wk Wv bv Wo bo p (i.castLE (by decide)) l := by
  have hd : ∀ e : Fin 768, headCol ⟨e / 64, by omega⟩ ⟨e % 64, by omega⟩ = e := fun e =>
    Fin.ext (by simp only [headCol]; omega)
  have hc : ∀ (h : Fin 3) (n : Fin 4) (d : Fin 64),
      headCol ⟨(col3 h n d : ℕ) / 64, by omega⟩ = col3 h n := fun h n d =>
    funext fun a => Fin.ext (by simp only [headCol, col3]; omega)
  have hk : (∑ h : Fin 3, ∑ n : Fin 4, ∑ d : Fin 64,
        average (fun a => scaledQuery X Wq bq p (i.castLE (by decide)) (col3 h n a))
          (fun j a => proj X Wk p j (col3 h n a)) (fun j => proj X Wv p j (col3 h n d)) * Wo (ix2 (col3 h n d) l))
      = ∑ e : Fin 768, headAverage X Wq bq Wk Wv p (i.castLE (by decide)) (headCol ⟨e / 64, by omega⟩) e
          * Wo (ix2 e l) := by
    rw [← sum_heads fun e => headAverage X Wq bq Wk Wv p (i.castLE (by decide)) (headCol ⟨e / 64, by omega⟩) e
          * Wo (ix2 e l)]
    refine Finset.sum_congr rfl fun h _ => Finset.sum_congr rfl fun n _ => Finset.sum_congr rfl fun d _ => ?_
    simp only [hc h n d]
    rfl
  have hr : ∀ e : Fin 768,
      Ref.mix (Ref.exponentials (Ref.scores (Ref.queryHeads X Wq bq) (Ref.tokenHeads X Wk bk))
          (Ref.largest (Ref.scores (Ref.queryHeads X Wq bq) (Ref.tokenHeads X Wk bk)))) (Ref.tokenHeads X Wv bv)
          (ix4 p ⟨e / 64, by omega⟩ i ⟨e % 64, by omega⟩) * Wo (ix2 e l)
        = headAverage X Wq bq Wk Wv p (i.castLE (by decide)) (headCol ⟨e / 64, by omega⟩) e * Wo (ix2 e l)
          + bv (ix1 e) * Wo (ix2 e l) := fun e => by
    rw [mix_coe hX hWq hbq hWk hbk Wv hbv, hd, hWo, add_coe_mul_coe, hbv]
  rw [Ref.whole, Ref.output_at, Finset.sum_congr rfl fun e _ => hr e, Finset.sum_add_distrib, kernelOut, hk]
  rw [add_assoc, add_comm]

end Cert.Attention

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import Idealize.ShloMosaic.Adequacy
public import Idealize.ShloMosaic.Init
public import Idealize.ShloMosaic.Lib.Claim
public import proofs.«01_k».proof.Proof.Finite
public import proofs.«01_k».proof.Proof.Equation

@[expose] public section

noncomputable section

namespace Cert.Proof

open Idealize.ShloMosaic Idealize.SL.Sem

/-- For arguments the precondition admits, the kernel's array is the reference's result. -/
theorem results_eq (m : (ℓ : Loc Cert.KernelIdeal.nD Cert.KernelIdeal.τ Cert.KernelIdeal.sig) → Buf (Elt Ideal) ℓ)
    (hpre : Cert.Pre_KernelIdeal_finite m) (c : Dev Cert.KernelIdeal.nD) :
    Cert.Attention.Ref.whole (Cert.Attention.argX m c) (Cert.Attention.argWq m c) (Cert.Attention.argBq m c)
        (Cert.Attention.argWk m c) (m ((c.tc : Thread Cert.KernelIdeal.nD Cert.KernelIdeal.τ).loc Cert.KernelIdeal.main_arg5))
        (Cert.Attention.argWv m c) (Cert.Attention.argBv m c) (Cert.Attention.argWo m c) (Cert.Attention.argBo m c)
      = (Cert.KernelIdeal.Gen.dats m 0 c).arrAt 7 (Cert.KernelIdeal.cfgs 0).N := by
  obtain ⟨⟨rX, hX⟩, ⟨rWq, hWq⟩, ⟨rbq, hbq⟩, ⟨rWk, hWk⟩, ⟨rbk, hbk⟩, ⟨rbv, hbv⟩, ⟨rWo, hWo⟩⟩ :=
    Cert.Attention.real_of_pre _ _ _ _ _ _ _ _ _ _ (hpre c)
  rw [Cert.Attention.final]
  funext j
  rw [eq_ix3 j]
  exact Cert.Attention.whole_eq (congrFun hX) (congrFun hWq) (congrFun hbq) (congrFun hWk) (congrFun hbk) _
    (congrFun hbv) (congrFun hWo) _ _ _ _

/-- The reference ends with its arguments unchanged and, having no semaphore, every counter at zero. -/
theorem reference_frame : Cert.quiescent_ReferenceIdeal := fun m g _ =>
  (θ_run Cert.ReferenceIdeal.defs _ _).mono
    (fun r h => ⟨fun c => (h c).2.2, sem_eq_zero_of_no_sems (by decide) r.2⟩)
    (Cert.ReferenceIdeal.Value.run (F := Ideal) m g)

/-- Every claim: the three programs end with their arguments unchanged, the idealized kernel is the kernel,
    and its results equal the reference's. -/
theorem claim : Cert.Claim := ⟨Cert.Kernel.Gen.facts, Cert.KernelIdeal.Gen.facts, Cert.ReferenceIdeal.Gen.facts, Cert.Pre_finite.Gen.facts, by
  refine ⟨fun m g _ => Cert.Kernel.Gen.frame m g, fun m g _ => Cert.KernelIdeal.Gen.frame m g,
    fun m g _ => Cert.KernelIdeal.Gen.frame m g, reference_frame, fun m g _ => reference_frame m g trivial,
    trivial, ?_⟩
  pair_intro
  · run_from Cert.KernelIdeal.Gen.run_main m g
  · run_from Cert.ReferenceIdeal.Value.run m' g'
    obtain ⟨h0, h1, h2, h3, h4, h5, h6, h7, h8, h9⟩ := hagree c
    refine (Cert.Attention.Ref.result_eq m' c).trans ?_
    rw [h0, h2, h3, h4, h5, h6, h7, h8, h9]
    exact results_eq m hpre c⟩

end Cert.Proof

end
